-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_types_in_table [hPre_types_in_table : Cert.Pre_types_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_types_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_types_in_table [hPre_types_in_table : Cert.Pre_types_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_types_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_types_in_table [hKernelIdeal : Cert.KernelIdeal.Facts] [hPre_types_in_table : Cert.Pre_types_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_types_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_types_in_table [hReferenceIdeal : Cert.ReferenceIdeal.Facts] [hPre_types_in_table : Cert.Pre_types_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_types_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_types_in_table [hKernelIdeal : Cert.KernelIdeal.Facts] [hReferenceIdeal : Cert.ReferenceIdeal.Facts] [hPre_types_in_table : Cert.Pre_types_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_types_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_types_in_table : Cert.Pre_types_in_table.Facts),
    quiescent_Kernel (hKernel := hKernel)
    ∧ quiescent_KernelIdeal (hKernelIdeal := hKernelIdeal)
    ∧ quiescent_KernelIdeal_pre_types_in_table (hKernelIdeal := hKernelIdeal) (hPre_types_in_table := hPre_types_in_table)
    ∧ quiescent_ReferenceIdeal (hReferenceIdeal := hReferenceIdeal)
    ∧ quiescent_ReferenceIdeal_pre_types_in_table (hReferenceIdeal := hReferenceIdeal) (hPre_types_in_table := hPre_types_in_table)
    ∧ preserves_Kernel_KernelIdeal
    ∧ algebraic_KernelIdeal_ReferenceIdeal_pre_types_in_table (hKernelIdeal := hKernelIdeal) (hReferenceIdeal := hReferenceIdeal) (hPre_types_in_table := hPre_types_in_table)
-- ==== Pre_types_in_table.lean ====
abbrev S16384x8x12 : Shape := ⟨3, ![16384, 8, 12]⟩
abbrev S16384x8x12x11 : Shape := ⟨4, ![16384, 8, 12, 11]⟩
abbrev S18x32 : Shape := ⟨2, ![18, 32]⟩
abbrev S43x128 : Shape := ⟨2, ![43, 128]⟩
abbrev S128 : Shape := ⟨1, ![128]⟩
abbrev S_ : Shape := ⟨0, ![]⟩

class Facts : Prop where
  bcast_S_S16384x8x12 : S_.BroadcastsInDim S16384x8x12 (![] : Fin 0 → Fin S16384x8x12.rank)

variable [Facts]

def fn {F : FTy → Type} [FloatOps F] (main_arg0 : IVec S16384x8x12 32) (main_arg1 : FVec F S16384x8x12x11 .f32) (main_arg2 : FVec F S18x32 .f32) (main_arg3 : FVec F S43x128 .f32) (main_arg4 : FVec F S128 .f32) : IVec S16384x8x12 1 :=
  let main_c : IVec S_ 32 := constantI S_ 32 0#32
  let main_v0 : IVec S16384x8x12 32 := broadcastInDim S16384x8x12 ![] bcast_S_S16384x8x12 main_c
  let main_v1 : IVec S16384x8x12 1 := cmpi .sge main_arg0 main_v0
  let main_c_0 : IVec S_ 32 := constantI S_ 32 18#32
  let main_v2 : IVec S16384x8x12 32 := broadcastInDim S16384x8x12 ![] bcast_S_S16384x8x12 main_c_0
  let main_v3 : IVec S16384x8x12 1 := cmpi .slt main_arg0 main_v2
  let main_v4 : IVec S16384x8x12 1 := andi main_v1 main_v3
  main_v4
-- ==== Kernel.lean ====
abbrev S16384x8x12 : Shape := ⟨3, ![16384, 8, 12]⟩
abbrev S16384x8x12x11 : Shape := ⟨4, ![16384, 8, 12, 11]⟩
abbrev S18x32 : Shape := ⟨2, ![18, 32]⟩
abbrev S43x128 : Shape := ⟨2, ![43, 128]⟩
abbrev S128 : Shape := ⟨1, ![128]⟩
abbrev S12x11x8x16384 : Shape := ⟨4, ![12, 11, 8, 16384]⟩
abbrev S132x131072 : Shape := ⟨2, ![132, 131072]⟩
abbrev S12x8x16384 : Shape := ⟨3, ![12, 8, 16384]⟩
abbrev S128x1 : Shape := ⟨2, ![128, 1]⟩
abbrev S8x128x16384 : Shape := ⟨3, ![8, 128, 16384]⟩
abbrev S12x8x4096 : Shape := ⟨3, ![12, 8, 4096]⟩
abbrev S132x4096 : Shape := ⟨2, ![132, 4096]⟩
abbrev S1x128x4096 : Shape := ⟨3, ![1, 128, 4096]⟩
abbrev S32x128 : Shape := ⟨2, ![32, 128]⟩
abbrev S18x128 : Shape := ⟨2, ![18, 128]⟩
abbrev S11x128 : Shape := ⟨2, ![11, 128]⟩
abbrev S29x128 : Shape := ⟨2, ![29, 128]⟩
abbrev S128x29 : Shape := ⟨2, ![128, 29]⟩
abbrev S18x1 : Shape := ⟨2, ![18, 1]⟩
abbrev S12x1x256 : Shape := ⟨3, ![12, 1, 256]⟩
abbrev S11x256 : Shape := ⟨2, ![11, 256]⟩
abbrev S1x1x256 : Shape := ⟨3, ![1, 1, 256]⟩
abbrev S1x256 : Shape := ⟨2, ![1, 256]⟩
abbrev S18x256 : Shape := ⟨2, ![18, 256]⟩
abbrev S29x256 : Shape := ⟨2, ![29, 256]⟩
abbrev S128x256 : Shape := ⟨2, ![128, 256]⟩
abbrev S1x128x256 : Shape := ⟨3, ![1, 128, 256]⟩
abbrev S16384x8x128 : Shape := ⟨3, ![16384, 8, 128]⟩

abbrev nBuf : Space → Nat
  | .hbm => 11
  | .vmem => 9
  | .smem => 0
  | _ => 0

abbrev bufTy : (tb : Table) → Fin (tcTables nBuf tb) → BufTy
  | .hbm, ⟨0, _⟩ => ⟨S16384x8x12, .i32⟩
  | .hbm, ⟨1, _⟩ => ⟨S16384x8x12x11, .f32⟩
  | .hbm, ⟨2, _⟩ => ⟨S18x32, .f32⟩
  | .hbm, ⟨3, _⟩ => ⟨S43x128, .f32⟩
  | .hbm, ⟨4, _⟩ => ⟨S128, .f32⟩
  | .hbm, ⟨5, _⟩ => ⟨S12x11x8x16384, .f32⟩
  | .hbm, ⟨6, _⟩ => ⟨S132x131072, .f32⟩
  | .hbm, ⟨7, _⟩ => ⟨S12x8x16384, .i32⟩
  | .hbm, ⟨8, _⟩ => ⟨S128x1, .f32⟩
  | .hbm, ⟨9, _⟩ => ⟨S8x128x16384, .f32⟩
  | .hbm, ⟨10, _⟩ => ⟨S16384x8x128, .f32⟩
  | .local _ .vmem, ⟨0, _⟩ => ⟨S12x8x4096, .i32⟩
  | .local _ .vmem, ⟨1, _⟩ => ⟨S12x8x4096, .i32⟩
  | .local _ .vmem, ⟨2, _⟩ => ⟨S132x4096, .f32⟩
  | .local _ .vmem, ⟨3, _⟩ => ⟨S132x4096, .f32⟩
  | .local _ .vmem, ⟨4, _⟩ => ⟨S18x32, .f32⟩
  | .local _ .vmem, ⟨5, _⟩ => ⟨S43x128, .f32⟩
  | .local _ .vmem, ⟨6, _⟩ => ⟨S128x1, .f32⟩
  | .local _ .vmem, ⟨7, _⟩ => ⟨S1x128x4096, .f32⟩
  | .local _ .vmem, ⟨8, _⟩ => ⟨S1x128x4096, .f32⟩
  | _, _ => ⟨S16384x8x12, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def k0_off1 (i : grid0.Coords) : Fin 3 → Nat :=
  let c0_4 : Index := 0#32
  let arg1 : BitVec 32 := BitVec.ofNat 32 (i 1).val
  let v7 : Index := Scalar.indexCast arg1
  let c0_5 : Index := 0#32
  ![0, v7.toNat, 0]
def k0_off2 (i : grid0.Coords) : Fin 3 → Nat :=
  let c0_37 : Index := 0#32
  let arg1 : BitVec 32 := BitVec.ofNat 32 (i 1).val
  let v162 : Index := Scalar.indexCast arg1
  let c256 : Index := 256#32
  ![0, v162.toNat, 256]
def k0_off3 (i : grid0.Coords) : Fin 3 → Nat :=
  let c0_80 : Index := 0#32
  let arg1 : BitVec 32 := BitVec.ofNat 32 (i 1).val
  let v317 : Index := Scalar.indexCast arg1
  let c512 : Index := 512#32
  ![0, v317.toNat, 512]
def k0_off4 (i : grid0.Coords) : Fin 3 → Nat :=
  let c0_123 : Index := 0#32
  let arg1 : BitVec 32 := BitVec.ofNat 32 (i 1).val
  let v472 : Index := Scalar.indexCast arg1
  let c768 : Index := 768#32
  ![0, v472.toNat, 768]
def k0_off5 (i : grid0.Coords) : Fin 3 → Nat :=
  let c0_166 : Index := 0#32
  let arg1 : BitVec 32 := BitVec.ofNat 32 (i 1).val
  let v627 : Index := Scalar.indexCast arg1
  let c1024 : Index := 1024#32
  ![0, v627.toNat, 1024]
def k0_off6 (i : grid0.Coords) : Fin 3 → Nat :=
  let c0_209 : Index := 0#32
  let arg1 : BitVec 32 := BitVec.ofNat 32 (i 1).val
  let v782 : Index := Scalar.indexCast arg1
  let c1280 : Index := 1280#32
  ![0, v782.toNat, 1280]
def k0_off7 (i : grid0.Coords) : Fin 3 → Nat :=
  let c0_252 : Index := 0#32
  let arg1 : BitVec 32 := BitVec.ofNat 32 (i 1).val
  let v937 : Index := Scalar.indexCast arg1
  let c1536 : Index := 1536#32
  ![0, v937.toNat, 1536]
def k0_off8 (i : grid0.Coords) : Fin 3 → Nat :=
  let c0_295 : Index := 0#32
  let arg1 : BitVec 32 := BitVec.ofNat 32 (i 1).val
  let v1092 : Index := Scalar.indexCast arg1
  let c1792 : Index := 1792#32
  ![0, v1092.toNat, 1792]
def k0_off9 (i : grid0.Coords) : Fin 3 → Nat :=
  let c0_338 : Index := 0#32
  let arg1 : BitVec 32 := BitVec.ofNat 32 (i 1).val
  let v1247 : Index := Scalar.indexCast arg1
  let c2048 : Index := 2048#32
  ![0, v1247.toNat, 2048]
def k0_off10 (i : grid0.Coords) : Fin 3 → Nat :=
  let c0_381 : Index := 0#32
  let arg1 : BitVec 32 := BitVec.ofNat 32 (i 1).val
  let v1402 : Index := Scalar.indexCast arg1
  let c2304 : Index := 2304#32
  ![0, v1402.toNat, 2304]
def k0_off11 (i : grid0.Coords) : Fin 3 → Nat :=
  let c0_424 : Index := 0#32
  let arg1 : BitVec 32 := BitVec.ofNat 32 (i 1).val
  let v1557 : Index := Scalar.indexCast arg1
  let c2560 : Index := 2560#32
  ![0, v1557.toNat, 2560]
def k0_off12 (i : grid0.Coords) : Fin 3 → Nat :=
  let c0_467 : Index := 0#32
  let arg1 : BitVec 32 := BitVec.ofNat 32 (i 1).val
  let v1712 : Index := Scalar.indexCast arg1
  let c2816 : Index := 2816#32
  ![0, v1712.toNat, 2816]
def k0_off13 (i : grid0.Coords) : Fin 3 → Nat :=
  let c0_510 : Index := 0#32
  let arg1 : BitVec 32 := BitVec.ofNat 32 (i 1).val
  let v1867 : Index := Scalar.indexCast arg1
  let c3072 : Index := 3072#32
  ![0, v1867.toNat, 3072]
def k0_off14 (i : grid0.Coords) : Fin 3 → Nat :=
  let c0_553 : Index := 0#32
  let arg1 : BitVec 32 := BitVec.ofNat 32 (i 1).val
  let v2022 : Index := Scalar.indexCast arg1
  let c3328 : Index := 3328#32
  ![0, v2022.toNat, 3328]
def k0_off15 (i : grid0.Coords) : Fin 3 → Nat :=
  let c0_596 : Index := 0#32
  let arg1 : BitVec 32 := BitVec.ofNat 32 (i 1).val
  let v2177 : Index := Scalar.indexCast arg1
  let c3584 : Index := 3584#32
  ![0, v2177.toNat, 3584]
def k0_off16 (i : grid0.Coords) : Fin 3 → Nat :=
  let c0_639 : Index := 0#32
  let arg1 : BitVec 32 := BitVec.ofNat 32 (i 1).val
  let v2332 : Index := Scalar.indexCast arg1
  let c3840 : Index := 3840#32
  ![0, v2332.toNat, 3840]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S12x8x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S132x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S18x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S43x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16384x8x12 : Shape := ⟨3, ![16384, 8, 12]⟩
abbrev S16384x8x12x11 : Shape := ⟨4, ![16384, 8, 12, 11]⟩
abbrev S18x32 : Shape := ⟨2, ![18, 32]⟩
abbrev S43x128 : Shape := ⟨2, ![43, 128]⟩
abbrev S128 : Shape := ⟨1, ![128]⟩
abbrev S131072x12 : Shape := ⟨2, ![131072, 12]⟩
abbrev S_ : Shape := ⟨0, ![]⟩
abbrev S131072x12x1 : Shape := ⟨3, ![131072, 12, 1]⟩
abbrev S1 : Shape := ⟨1, ![1]⟩
abbrev S1x1x1 : Shape := ⟨3, ![1, 1, 1]⟩
abbrev S131072x12x32 : Shape := ⟨3, ![131072, 12, 32]⟩
abbrev S16384x8x12x32 : Shape := ⟨4, ![16384, 8, 12, 32]⟩
abbrev S16384x8x12x43 : Shape := ⟨4, ![16384, 8, 12, 43]⟩
abbrev S16384x8x12x128 : Shape := ⟨4, ![16384, 8, 12, 128]⟩
abbrev S1x1x1x128 : Shape := ⟨4, ![1, 1, 1, 128]⟩
abbrev S16384x8x128 : Shape := ⟨3, ![16384, 8, 128]⟩

abbrev nBuf : Space → Nat
  | .hbm => 40
  | .vmem => 0
  | .smem => 0
  | _ => 0

abbrev bufTy : (tb : Table) → Fin (tcTables nBuf tb) → BufTy
  | .hbm, ⟨0, _⟩ => ⟨S16384x8x12, .i32⟩
  | .hbm, ⟨1, _⟩ => ⟨S16384x8x12x11, .f32⟩
  | .hbm, ⟨2, _⟩ => ⟨S18x32, .f32⟩
  | .hbm, ⟨3, _⟩ => ⟨S43x128, .f32⟩
  | .hbm, ⟨4, _⟩ => ⟨S128, .f32⟩
  | .hbm, ⟨5, _⟩ => ⟨S131072x12, .i32⟩
  | .hbm, ⟨6, _⟩ => ⟨S_, .i32⟩
  | .hbm, ⟨7, _⟩ => ⟨S131072x12, .i32⟩
  | .hbm, ⟨8, _⟩ => ⟨S131072x12, .i1⟩
  | .hbm, ⟨9, _⟩ => ⟨S_, .i32⟩
  | .hbm, ⟨10, _⟩ => ⟨S131072x12, .i32⟩
  | .hbm, ⟨11, _⟩ => ⟨S131072x12, .i32⟩
  | .hbm, ⟨12, _⟩ => ⟨S131072x12, .i32⟩
  | .hbm, ⟨13, _⟩ => ⟨S131072x12x1, .i32⟩
  | .hbm, ⟨14, _⟩ => ⟨S1, .i32⟩
  | .hbm, ⟨15, _⟩ => ⟨S_, .i32⟩
  | .hbm, ⟨16, _⟩ => ⟨S131072x12x1, .i32⟩
  | .hbm, ⟨17, _⟩ => ⟨S131072x12x1, .i1⟩
  | .hbm, ⟨18, _⟩ => ⟨S1x1x1, .i32⟩
  | .hbm, ⟨19, _⟩ => ⟨S131072x12x1, .i32⟩
  | .hbm, ⟨20, _⟩ => ⟨S131072x12x1, .i1⟩
  | .hbm, ⟨21, _⟩ => ⟨S131072x12x1, .i1⟩
  | .hbm, ⟨22, _⟩ => ⟨S_, .i1⟩
  | .hbm, ⟨23, _⟩ => ⟨S131072x12, .i1⟩
  | .hbm, ⟨24, _⟩ => ⟨S131072x12x32, .f32⟩
  | .hbm, ⟨25, _⟩ => ⟨S131072x12x32, .i1⟩
  | .hbm, ⟨26, _⟩ => ⟨S_, .f32⟩
  | .hbm, ⟨27, _⟩ => ⟨S131072x12x32, .f32⟩
  | .hbm, ⟨28, _⟩ => ⟨S131072x12x32, .f32⟩
  | .hbm, ⟨29, _⟩ => ⟨S16384x8x12x32, .f32⟩
  | .hbm, ⟨30, _⟩ => ⟨S16384x8x12x43, .f32⟩
  | .hbm, ⟨31, _⟩ => ⟨S16384x8x12x128, .f32⟩
  | .hbm, ⟨32, _⟩ => ⟨S1x1x1x128, .f32⟩
  | .hbm, ⟨33, _⟩ => ⟨S16384x8x12x128, .f32⟩
  | .hbm, ⟨34, _⟩ => ⟨S16384x8x12x128, .f32⟩
  | .hbm, ⟨35, _⟩ => ⟨S_, .f32⟩
  | .hbm, ⟨36, _⟩ => ⟨S16384x8x12x128, .f32⟩
  | .hbm, ⟨37, _⟩ => ⟨S16384x8x12x128, .f32⟩
  | .hbm, ⟨38, _⟩ => ⟨S_, .f32⟩
  | .hbm, ⟨39, _⟩ => ⟨S16384x8x128, .f32⟩
  | _, _ => ⟨S16384x8x12, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_call1_cst : Ref sig .tc := ⟨.hbm, 35, rfl⟩
abbrev main_call1_v0 : Ref sig .tc := ⟨.hbm, 36, rfl⟩
abbrev main_v8 : Ref sig .tc := ⟨.hbm, 37, rfl⟩
abbrev main_cst : Ref sig .tc := ⟨.hbm, 38, rfl⟩
abbrev main_v9 : Ref sig .tc := ⟨.hbm, 39, rfl⟩

abbrev nD : Nat := 1
abbrev τ : Topo := Topo.v7x

variable {F : FTy → Type} [FloatOps F]
-- ==== Proof.Chunk.lean ====
module

public import proofs.«01_k».proof.Proof.Gen.KernelIdeal.Frame
public import Idealize.ShloMosaic.Lib.Pipeline.ValueKit.Tiles

@[expose] public section

set_option maxRecDepth 16384
noncomputable section

/-! What the body stores, said once for every lane chunk: one function of an item, one of the running
maximum over the items, one of a chunk; and the sixteen stores are that function at the sixteen chunks. -/

namespace Cert.KernelIdeal.Chunk

open Idealize.ShloMosaic Idealize.ShloMosaic.TcCoe Idealize.ShloMosaic.Tactic
open Idealize.ShloMosaic.Pipeline (Dat Cfg Window BodyObligation cellOf)
open Cert.KernelIdeal.Gen

variable {F : FTy → Type} [FloatOps F]

/-- A slice of one item of twelve lies in the array of twelve. -/
theorem slices_item (i : Fin 12) : S12x1x256.Slices ![(i : Nat), 0, 0] S1x1x256 := by
  revert i; decide +kernel

/-- The features of item `i` in lane chunk `k` lie in the feature block. -/
theorem inb_feat (k : Fin 16) (i : Fin 12) :
    ∀ a, (![11 * (i : Nat), 256 * (k : Nat)] : Fin 2 → Nat) a + S11x256.size a ≤ S132x4096.size a := by
  revert k i; decide +kernel

/-- The types of agent `w` in lane chunk `k` lie in the type block. -/
theorem inb_types (w : Nat) (hw : w < 8) (k : Fin 16) :
    ∀ a, (![0, w, 256 * (k : Nat)] : Fin 3 → Nat) a + S12x1x256.size a ≤ S12x8x4096.size a := by
  have hk := k.isLt
  intro a
  match a with
  | ⟨0, _⟩ => show 0 + 12 ≤ 12; omega
  | ⟨1, _⟩ => show w + 1 ≤ 8; omega
  | ⟨2, _⟩ => show 256 * (k : Nat) + 256 ≤ 4096; omega

/-- Lane chunk `k` lies in the output block. -/
theorem inb_out (k : Fin 16) :
    ∀ a, (![0, 0, 256 * (k : Nat)] : Fin 3 → Nat) a + S1x128x256.size a ≤ S1x128x4096.size a := by
  revert k; decide +kernel

/-- The one-hot columns of item `i`: row `t` is one where the item's type is `t`. -/
def oneHot (ty : Vec F S12x1x256 .i32) (i : Fin 12) : FVec F S18x256 .f32 :=
  sitofp .f32 (extui 32 (cmpi .eq
    (broadcastTo S18x256 (shapeCast S1x256
      (extractStridedSlice S1x1x256 ![(i : Nat), 0, 0] (shapeCast S12x1x256 ty shapeCasts_S12x1x256_S12x1x256)
        (slices_item i)) shapeCasts_S1x1x256_S1x256) broadcasts_S1x256_S18x256)
    (broadcastTo S18x256 (iota .tc S18x1 32 [0] iota_S18x1_d0_w32) broadcasts_S18x1_S18x256)) natLt_1_32)

/-- The projection of item `i`: the weights times its features over its one-hot columns. -/
def item (wc : FVec F S128x29 .f32) (ty : Vec F S12x1x256 .i32) (x : Fin 12 → Vec F S11x256 .f32) (i : Fin 12) :
    FVec F S128x256 .f32 :=
  matmul dot_S128x29_S29x256_S128x256_1_0_0_1_n_n none wc
    (concatenate S29x256 0 [⟨S11x256, shapeCast S11x256 (x i) shapeCasts_S11x256_S11x256⟩, ⟨S18x256, oneHot ty i⟩]
      concatenates_S11x256_S18x256_S29x256_d0)
    (constant S128x256 .f32 0x00000000#32)

/-- The maximum of the projections of items `0 … n`. -/
def best (wc : FVec F S128x29 .f32) (ty : Vec F S12x1x256 .i32) (x : Fin 12 → Vec F S11x256 .f32) :
    (n : Nat) → n < 12 → FVec F S128x256 .f32
  | 0, h => item wc ty x ⟨0, h⟩
  | n + 1, h => maximumf (best wc ty x n (by omega)) (item wc ty x ⟨n + 1, h⟩)

/-- What is stored for a lane chunk: the maximum over the twelve items, plus the bias, cut at zero. -/
def chunk (wc : FVec F S128x29 .f32) (ty : Vec F S12x1x256 .i32) (x : Fin 12 → Vec F S11x256 .f32)
    (b : Vec F S128x1 .f32) : FVec F S1x128x256 .f32 :=
  shapeCast S1x128x256
    (maximumf
      (addf (best wc ty x 11 (by decide))
        (broadcastTo S128x256 (shapeCast S128x1 b shapeCasts_S128x1_S128x1) broadcasts_S128x1_S128x256))
      (broadcast S128x256 (Scalar.ofBits .f32 0x00000000#32)))
    shapeCasts_S128x256_S1x128x256

/-- The word of the agent's grid coordinate, as the body's index computes it. -/
abbrev agent (t : Fin cfg0.N) : Nat := BitVec.toNat (Scalar.indexCast (BitVec.ofNat 32 (grid0.coords t 1 : Nat)))

/-- There are eight agents. -/
theorem agent_lt : ∀ t : Fin cfg0.N, agent t < 8 := by decide +kernel

/-- The features of every item in chunk `k` of a feature block. -/
def featOf (x : Vec F S132x4096 .f32) (k : Fin 16) (i : Fin 12) : Vec F S11x256 .f32 :=
  View.ld x (Rect.unit (s := S132x4096) ![11 * (i : Nat), 256 * (k : Nat)] S11x256.size (inb_feat k i))

/-- The types of agent `w` in chunk `k` of a type block. -/
def typesOf (x : Vec F S12x8x4096 .i32) (w : Nat) (hw : w < 8) (k : Fin 16) : Vec F S12x1x256 .i32 :=
  View.ld x (Rect.unit (s := S12x8x4096) ![0, w, 256 * (k : Nat)] S12x1x256.size (inb_types w hw k))

/-- What the block of a point stores in chunk `k`. -/
def stored (x0 : Vec F S12x8x4096 .i32) (x1 : Vec F S132x4096 .f32) (x2 : Vec F S18x32 .f32) (x3 : Vec F S43x128 .f32)
    (x4 : Vec F S128x1 .f32) (w : Nat) (hw : w < 8) (k : Fin 16) : FVec F S1x128x256 .f32 :=
  chunk
    (k0_pay2 (View.ld x2 (Rect.unit (s := S18x32) ![0, 0] S18x32.size inb_S18x32_S18x32_0_0))
      (View.ld x3 (Rect.unit (s := S43x128) ![0, 0] S32x128.size inb_S43x128_S32x128_0_0))
      (View.ld x3 (Rect.unit (s := S43x128) ![32, 0] S11x128.size inb_S43x128_S11x128_32_0)))
    (typesOf x0 w hw k) (featOf x1 k)
    (View.ld x4 (Rect.unit (s := S128x1) ![0, 0] S128x1.size inb_S128x1_S128x1_0_0))

variable (m : (ℓ : Loc nD τ sig) → Buf (Elt F) ℓ)

/-- The output block of a point is its sixteen chunks' stores, each the same function of its chunk. -/
theorem outsAt0_eq (c : Dev nD) (t : Fin cfg0.N) :
    outsAt0 m c t = View.canon (List.ofFn fun k : Fin 16 =>
      (⟨Rect.unit (s := S1x128x4096) ![0, 0, 256 * (k.rev : Nat)] S1x128x256.size (inb_out k.rev),
        stored (iblk m c 0 t) (iblk m c 1 t) (iblk m c 2 t) (iblk m c 3 t) (iblk m c 4 t) (agent t) (agent_lt t) k.rev⟩ :
        View.Piece (Elt F) S1x128x4096 .f32)) := by
  unfold outsAt0 out0_A_5
  rw [View.read_writes_eq_canon _ _ _ (cover0_A_5 c _ _ (hs0_0 t) _ (hs0_1 t) _ (hs0_2 t) _ (hs0_3 t) _ (hs0_4 t) _ (hs0_5 t) _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  rfl

end Cert.KernelIdeal.Chunk
end
-- ==== Proof.Spec.lean ====
module

public import proofs.«01_k».proof.Proof.Gen.KernelIdeal
public import Idealize.ShloMosaic.Lib.Pointwise

@[expose] public section

set_option maxRecDepth 16384
noncomputable section

/-! The mathematics of one output element, over the extended reals: the projection of one item, and the
maximum over the twelve items of its shifted and cut value. -/

namespace Cert.Fused

open Idealize.ShloMosaic
open scoped BigOperators

/-- The projection of an item with features `x` and type `ty` for one column `W` of the weights, as the fused weights
    compute it: the features times their rows of the weights, plus the projected table times the one-hot of the type. -/
def logit (emb : Fin 18 → Fin 32 → EReal) (W : Fin 43 → EReal) (x : Fin 11 → EReal) (ty : BitVec 32) : EReal :=
  ∑ f : Fin 11, W ⟨32 + f, by omega⟩ * x f
    + ∑ t : Fin 18, (∑ e : Fin 32, emb t e * W ⟨e, by omega⟩) * (if ty = BitVec.ofNat 32 t then 1 else 0)

/-- The maximum over the items of the projection plus the bias, cut at zero. -/
def pooled (z : Fin 12 → EReal) (b : EReal) : EReal :=
  Finset.univ.sup fun i : Fin 12 => max (z i + b) 0

/-- Two types of the table have different words. -/
theorem word_inj (s t : Fin 18) (h : BitVec.ofNat 32 (s : Nat) = BitVec.ofNat 32 (t : Nat)) : s = t := by
  revert s t; decide +kernel

/-- For a type of the table the one-hot product selects the table's row: the projection is that of the row and the
    features side by side. -/
theorem logit_eq (emb : Fin 18 → Fin 32 → EReal) (W : Fin 43 → EReal) (x : Fin 11 → EReal) (t : Fin 18) :
    logit emb W x (BitVec.ofNat 32 t)
      = ∑ e : Fin 32, emb t e * W ⟨e, by omega⟩ + ∑ f : Fin 11, x f * W ⟨32 + f, by omega⟩ := by
  unfold logit
  rw [Finset.sum_eq_single t, if_pos rfl, mul_one, add_comm]
  · congr 1
    exact Finset.sum_congr rfl fun f _ => mul_comm _ _
  · intro s _ hs
    rw [if_neg fun h => hs (word_inj t s h).symm, mul_zero]
  · exact fun h => absurd (Finset.mem_univ t) h

/-- Where `B` is the greatest of the projections, cutting `B + b` at zero is the maximum of the cut projections. -/
theorem pooled_eq (z : Fin 12 → EReal) (b B : EReal) (hmem : ∃ i, B = z i) (hle : ∀ i, z i ≤ B) :
    max (B + b) 0 = pooled z b := by
  obtain ⟨i, rfl⟩ := hmem
  unfold pooled
  refine le_antisymm ?_ (Finset.sup_le fun j _ => max_le_max (add_le_add (hle j) le_rfl) le_rfl)
  exact Finset.le_sup (f := fun i : Fin 12 => max (z i + b) 0) (Finset.mem_univ i)

end Cert.Fused
end
-- ==== Proof.Block.lean ====
module

public import proofs.«01_k».proof.Proof.Chunk
public import proofs.«01_k».proof.Proof.Spec
public import Idealize.ShloMosaic.Lib.Pointwise

@[expose] public section

set_option maxRecDepth 16384
noncomputable section

/-! What one block computes, element by element, over the extended reals. -/

namespace Cert.KernelIdeal.Chunk

open Idealize.ShloMosaic Idealize.ShloMosaic.TcCoe Idealize.ShloMosaic.Tactic
open Cert.KernelIdeal.Gen Cert.Fused
open scoped BigOperators

/-- Row `t` of the one-hot columns of item `i` is one at a lane whose item has type `t`, zero elsewhere. -/
theorem oneHot_apply (ty : Vec Ideal S12x1x256 .i32) (i : Fin 12) (t : Fin 18) (l : Fin 256) :
    (oneHot ty i : FVec Ideal S18x256 .f32) (ix2 t l) = if ty (ix3 i 0 l) = BitVec.ofNat 32 t then 1 else 0 := by
  pointwise [oneHot]
  by_cases h : ty (ix3 i 0 l) = BitVec.ofNat 32 t
  · have e : IntOp.cmpi .eq (ty (ix3 i 0 l)) (BitVec.ofNat 32 t) = 1#1 := by simp [h, IntOp.cmpi]
    rw [e, if_pos h]
    show (((BitVec.setWidth 32 1#1).toInt : ℝ) : EReal) = 1
    norm_num
  · have e : IntOp.cmpi .eq (ty (ix3 i 0 l)) (BitVec.ofNat 32 t) = 0#1 := by
      simp only [IntOp.cmpi, beq_eq_false_iff_ne.mpr h]
      rfl
    rw [e, if_neg h]
    show (((BitVec.setWidth 32 0#1).toInt : ℝ) : EReal) = 0
    norm_num

/-- The projection of item `i`, with the sum over features and one-hot rows split in its two parts. -/
theorem item_apply (wc : FVec Ideal S128x29 .f32) (ty : Vec Ideal S12x1x256 .i32) (x : Fin 12 → Vec Ideal S11x256 .f32)
    (i : Fin 12) (h : Fin 128) (l : Fin 256) :
    (item wc ty x i : FVec Ideal S128x256 .f32) (ix2 h l)
      = ∑ f : Fin 11, wc (ix2 h ⟨f, by omega⟩) * x i (ix2 f l)
        + ∑ t : Fin 18, wc (ix2 h ⟨11 + t, by omega⟩) * (if ty (ix3 i 0 l) = BitVec.ofNat 32 t then 1 else 0) := by
  pointwise [item]
  simp only [oneHot_apply]

/-- The fused weights: first the features' rows of the weights, then the projected table. -/
theorem weights_apply (v0 : Vec Ideal S18x32 .f32) (v1 : Vec Ideal S32x128 .f32) (v3 : Vec Ideal S11x128 .f32)
    (h : Fin 128) (k : Fin 29) :
    (k0_pay2 v0 v1 v3 : FVec Ideal S128x29 .f32) (ix2 h k)
      = if hk : (k : Nat) < 11 then v3 (ix2 ⟨k, hk⟩ h) else ∑ e : Fin 32, v0 (ix2 ⟨k - 11, by omega⟩ e) * v1 (ix2 e h) := by
  pointwise [k0_pay2]

/-- The running maximum is one of the projections, and none of those it covers exceeds it. -/
theorem best_spec (wc : FVec Ideal S128x29 .f32) (ty : Vec Ideal S12x1x256 .i32) (x : Fin 12 → Vec Ideal S11x256 .f32)
    (j : S128x256.Idx) : ∀ (n : Nat) (hn : n < 12),
    (∃ i, best wc ty x n hn j = item wc ty x i j) ∧ ∀ i : Fin 12, (i : Nat) ≤ n → item wc ty x i j ≤ best wc ty x n hn j
  | 0, hn => ⟨⟨⟨0, hn⟩, rfl⟩, fun i hi => by
      obtain rfl : i = ⟨0, hn⟩ := Fin.ext (Nat.le_zero.mp hi)
      exact le_rfl⟩
  | n + 1, hn => by
      obtain ⟨⟨i, hi⟩, hle⟩ := best_spec wc ty x j n (by omega)
      have e : best wc ty x (n + 1) hn j = max (best wc ty x n (by omega) j) (item wc ty x ⟨n + 1, hn⟩ j) := rfl
      rw [e]
      refine ⟨?_, fun k hk => ?_⟩
      · rcases max_choice (best wc ty x n (by omega) j) (item wc ty x ⟨n + 1, hn⟩ j) with h | h
        · exact ⟨i, h.trans hi⟩
        · exact ⟨_, h⟩
      · rcases Nat.lt_or_ge n k with h | h
        · obtain rfl : k = ⟨n + 1, hn⟩ := Fin.ext (by show (k : Nat) = n + 1; omega)
          exact le_max_right _ _
        · exact (hle k h).trans (le_max_left _ _)

/-- A stored chunk, element by element: the pooled projections of the twelve items. -/
theorem chunk_apply (wc : FVec Ideal S128x29 .f32) (ty : Vec Ideal S12x1x256 .i32) (x : Fin 12 → Vec Ideal S11x256 .f32)
    (b : Vec Ideal S128x1 .f32) (h : Fin 128) (l : Fin 256) :
    (chunk wc ty x b : FVec Ideal S1x128x256 .f32) (ix3 0 h l)
      = pooled (fun i => item wc ty x i (ix2 h l)) (b (ix2 h 0)) := by
  pointwise [chunk]
  obtain ⟨hm, hle⟩ := best_spec wc ty x (ix2 h l) 11 (by decide)
  exact pooled_eq _ _ _ hm fun i => hle i (by omega)

/-- The element of a block at feature `h` and lane `l` of chunk `k`. -/
theorem stored_apply (x0 : Vec Ideal S12x8x4096 .i32) (x1 : Vec Ideal S132x4096 .f32) (x2 : Vec Ideal S18x32 .f32)
    (x3 : Vec Ideal S43x128 .f32) (x4 : Vec Ideal S128x1 .f32) (w : Nat) (hw : w < 8) (k : Fin 16) (h : Fin 128)
    (l : Fin 256) :
    (stored x0 x1 x2 x3 x4 w hw k : FVec Ideal S1x128x256 .f32) (ix3 0 h l)
      = pooled (fun i => logit (fun t e => x2 (ix2 t e)) (fun r => x3 (ix2 r h))
          (fun f => x1 (ix2 ⟨11 * i + f, by omega⟩ ⟨256 * k + l, by omega⟩))
          (x0 (ix3 i ⟨w, hw⟩ ⟨256 * k + l, by omega⟩))) (x4 (ix2 h 0)) := by
  unfold stored
  rw [chunk_apply]
  have hb : View.ld x4 (Rect.unit (s := S128x1) ![0, 0] S128x1.size inb_S128x1_S128x1_0_0) (ix2 h 0) = x4 (ix2 h 0) :=
    View.ld_unit_apply_of _ _ _ _ _ _ fun a => by match a with | ⟨0, _⟩ => exact (Nat.zero_add _).symm | ⟨1, _⟩ => rfl
  rw [hb]
  congr 1
  funext i
  rw [item_apply]
  unfold logit
  have hx (f : Fin 11) : featOf x1 k i (ix2 f l) = x1 (ix2 ⟨11 * i + f, by omega⟩ ⟨256 * k + l, by omega⟩) :=
    View.ld_unit_apply_of _ _ _ _ _ _ fun a => by match a with | ⟨0, _⟩ => rfl | ⟨1, _⟩ => rfl
  have ht : typesOf x0 w hw k (ix3 i 0 l) = x0 (ix3 i ⟨w, hw⟩ ⟨256 * k + l, by omega⟩) :=
    View.ld_unit_apply_of _ _ _ _ _ _ fun a => by
      match a with | ⟨0, _⟩ => exact (Nat.zero_add _).symm | ⟨1, _⟩ => rfl | ⟨2, _⟩ => rfl
  have h2 (t : Fin 18) (e : Fin 32) : View.ld x2 (Rect.unit (s := S18x32) ![0, 0] S18x32.size inb_S18x32_S18x32_0_0) (ix2 t e) = x2 (ix2 t e) :=
    View.ld_unit_apply_of _ _ _ _ _ _ fun a => by
      match a with | ⟨0, _⟩ => exact (Nat.zero_add _).symm | ⟨1, _⟩ => exact (Nat.zero_add _).symm
  have h3 (e : Fin 32) : View.ld x3 (Rect.unit (s := S43x128) ![0, 0] S32x128.size inb_S43x128_S32x128_0_0) (ix2 e h) = x3 (ix2 ⟨e, by omega⟩ h) :=
    View.ld_unit_apply_of _ _ _ _ _ _ fun a => by
      match a with | ⟨0, _⟩ => exact (Nat.zero_add _).symm | ⟨1, _⟩ => exact (Nat.zero_add _).symm
  have h4 (f : Fin 11) : View.ld x3 (Rect.unit (s := S43x128) ![32, 0] S11x128.size inb_S43x128_S11x128_32_0) (ix2 f h) = x3 (ix2 ⟨32 + f, by omega⟩ h) :=
    View.ld_unit_apply_of _ _ _ _ _ _ fun a => by
      match a with | ⟨0, _⟩ => rfl | ⟨1, _⟩ => exact (Nat.zero_add _).symm
  congr 1
  · refine Finset.sum_congr rfl fun f _ => ?_
    rw [weights_apply, dif_pos f.isLt, hx, h4]
  · refine Finset.sum_congr rfl fun t _ => ?_
    rw [weights_apply, dif_neg (by simp), ht]
    congr 1
    refine Finset.sum_congr rfl fun e _ => ?_
    rw [h2, h3]
    congr 3
    exact Fin.ext (by simp)

end Cert.KernelIdeal.Chunk
end
-- ==== Proof.Array.lean ====
module

public import proofs.«01_k».proof.Proof.Block
public import Idealize.ShloMosaic.Lib.Claim
public import Idealize.ShloMosaic.Lib.Pipeline.ValueKit

@[expose] public section

set_option maxRecDepth 16384
noncomputable section

/-! What the kernel's result array holds after the run, element by element. -/

namespace Cert.KernelIdeal.Chunk

open Idealize.ShloMosaic Idealize.ShloMosaic.TcCoe Idealize.ShloMosaic.Tactic
open Idealize.ShloMosaic.Pipeline (Dat Cfg Window BodyObligation cellOf)
open Cert.KernelIdeal.Gen Cert.Fused

variable (m : (ℓ : Loc nD τ sig) → Buf (Elt Ideal) ℓ)

/-- The output block of a point at feature `h` and lane `l`, over the point's input blocks. -/
theorem outsAt0_apply (c : Dev nD) (t : Fin cfg0.N) (h : Fin 128) (l : Fin 4096) :
    (outsAt0 m c t : FVec Ideal S1x128x4096 .f32) (ix3 0 h l)
      = pooled (fun i => logit (fun r e => iblk m c 2 t (ix2 r e)) (fun r => iblk m c 3 t (ix2 r h))
          (fun f => iblk m c 1 t (ix2 ⟨11 * i + f, by omega⟩ l))
          (iblk m c 0 t (ix3 i ⟨agent t, agent_lt t⟩ l))) (iblk m c 4 t (ix2 h 0)) := by
  rw [outsAt0_eq]
  refine View.canon_ofFn_unit_eq_of_forall (S := S1x128x4096) (fun k : Fin 16 => ![0, 0, 256 * (k.rev : Nat)]) S1x128x256.size
    (fun k => inb_out k.rev) _ _ _ ?_ ?_
  · have hk : (l : Nat) / 256 < 16 := by omega
    refine ⟨(⟨(l : Nat) / 256, hk⟩ : Fin 16).rev, fun a => ?_⟩
    rw [Fin.rev_rev]
    match a with
    | ⟨0, _⟩ => exact ⟨Nat.le_refl 0, Nat.one_pos⟩
    | ⟨1, _⟩ => exact ⟨Nat.zero_le _, by show (h : Nat) < 0 + 128; omega⟩
    | ⟨2, _⟩ => exact ⟨by show 256 * ((l : Nat) / 256) ≤ l; omega, by show (l : Nat) < 256 * ((l : Nat) / 256) + 256; omega⟩
  · intro k x hx
    obtain ⟨u, h', l', rfl⟩ : ∃ (u : Fin 1) (h' : Fin 128) (l' : Fin 256), x = ix3 u h' l' := ⟨x 0, x 1, x 2, eq_ix3 x⟩
    obtain rfl : u = 0 := Subsingleton.elim _ _
    obtain rfl : h = h' := Fin.ext ((hx 1).trans (Nat.zero_add _))
    have hl : (l : Nat) = 256 * (k.rev : Nat) + l' := hx 2
    have hl' : (⟨256 * (k.rev : Nat) + l', by omega⟩ : Fin 4096) = l := Fin.ext hl.symm
    refine (stored_apply _ _ _ _ _ _ (agent_lt t) k.rev h l').trans ?_
    rw [hl']

/-- The type array at the start of the region is the item types transposed. -/
theorem entry_v2 (c : Dev nD) : V m c main_v2
    = transpose S12x8x16384 [2, 1, 0] (m ((c : Thread nD τ).loc main_arg0)) transposes_S16384x8x12_S12x8x16384_2_1_0 := by
  unfold_abbrev_sides
  simp only [hostOps0, List.flatten_cons, List.flatten_nil, List.append_nil]
  after_results

/-- The feature array at the start of the region is the item features transposed and flattened. -/
theorem entry_v1 (c : Dev nD) : V m c main_v1
    = shapeCast S132x131072 (transpose S12x11x8x16384 [2, 3, 1, 0] (m ((c : Thread nD τ).loc main_arg1))
        transposes_S16384x8x12x11_S12x11x8x16384_2_3_1_0) shapeCasts_S12x11x8x16384_S132x131072 := by
  unfold_abbrev_sides
  simp only [hostOps0, List.flatten_cons, List.flatten_nil, List.append_nil]
  after_results
  rfl

/-- The bias array at the start of the region is the bias as a column. -/
theorem entry_v3 (c : Dev nD) : V m c main_v3
    = shapeCast S128x1 (m ((c : Thread nD τ).loc main_arg4)) shapeCasts_S128_S128x1 := by
  unfold_abbrev_sides
  simp only [hostOps0, List.flatten_cons, List.flatten_nil, List.append_nil]
  after_results
  rfl

/-- The block number of window 0 at a point. -/
theorem index0_eq : ∀ t : Fin cfg0.N, win0_0.index t = ![0, 0, t.val / 8] :=
  (by decide +kernel : ∀ t : Fin grid0.N, _)
/-- The block number of window 1 at a point. -/
theorem index1_eq : ∀ t : Fin cfg0.N, win0_1.index t = ![0, t.val % 8 * 4 + t.val / 8] :=
  (by decide +kernel : ∀ t : Fin grid0.N, _)
/-- The block number of window 2 at a point. -/
theorem index2_eq : ∀ t : Fin cfg0.N, win0_2.index t = ![0, 0] :=
  (by decide +kernel : ∀ t : Fin grid0.N, _)
/-- The block number of window 3 at a point. -/
theorem index3_eq : ∀ t : Fin cfg0.N, win0_3.index t = ![0, 0] :=
  (by decide +kernel : ∀ t : Fin grid0.N, _)
/-- The block number of window 4 at a point. -/
theorem index4_eq : ∀ t : Fin cfg0.N, win0_4.index t = ![0, 0] :=
  (by decide +kernel : ∀ t : Fin grid0.N, _)
/-- The block number of window 5 at a point. -/
theorem index5_eq : ∀ t : Fin cfg0.N, win0_5.index t = ![t.val % 8, 0, t.val / 8] :=
  (by decide +kernel : ∀ t : Fin grid0.N, _)

/-- The agent of a point is the remainder of its number by eight. -/
theorem agent_eq : ∀ t : Fin cfg0.N, agent t = t.val % 8 :=
  (by decide +kernel : ∀ t : Fin grid0.N, _)

/-- The grid has thirty-two points. -/
theorem point_lt (t : Fin cfg0.N) : t.val < 32 := N_0 ▸ t.isLt

/-- A point's type block at an element is the type of its item. -/
theorem types_block (c : Dev nD) (t : Fin cfg0.N) (i : Fin 12) (a : Fin 8) (l : Fin 4096) :
    iblk m c 0 t (ix3 i a l)
      = m ((c : Thread nD τ).loc main_arg0) (ix3 ⟨t.val / 8 * 4096 + l, by have := point_lt t; omega⟩ a i) := by
  have hv : iblk m c 0 t (ix3 i a l) = V m c main_v2 (ix3 i a ⟨t.val / 8 * 4096 + l, by have := point_lt t; omega⟩) := by
    blk_simp [iblk]
    congr 1
    blk_ext [index0_eq]
  rw [hv, entry_v2]
  pointwise

/-- A point's feature block at an element is the feature of its item. -/
theorem feat_block (c : Dev nD) (t : Fin cfg0.N) (i : Fin 12) (f : Fin 11) (l : Fin 4096) :
    iblk m c 1 t (ix2 ⟨11 * i + f, by omega⟩ l)
      = m ((c : Thread nD τ).loc main_arg1)
          (ix4 ⟨t.val / 8 * 4096 + l, by have := point_lt t; omega⟩ ⟨t.val % 8, by omega⟩ i f) := by
  have hv : iblk m c 1 t (ix2 ⟨11 * i + f, by omega⟩ l)
      = V m c main_v1 (ix2 ⟨11 * i + f, by omega⟩ ⟨t.val % 8 * 16384 + (t.val / 8 * 4096 + l), by have := point_lt t; omega⟩) := by
    blk_simp [iblk]
    congr 1
    blk_ext [index1_eq]
  rw [hv, entry_v1]
  pointwise
  congr 2
  · exact Fin.ext (by show (t.val % 8 * 16384 + (t.val / 8 * 4096 + l)) % 16384 = t.val / 8 * 4096 + l; have := point_lt t; omega)
  · exact Fin.ext (by show (t.val % 8 * 16384 + (t.val / 8 * 4096 + l)) / 16384 = t.val % 8; have := point_lt t; omega)

/-- A point's bias block is the bias. -/
theorem bias_block (c : Dev nD) (t : Fin cfg0.N) (h : Fin 128) :
    iblk m c 4 t (ix2 h 0) = m ((c : Thread nD τ).loc main_arg4) (ix1 h) := by
  have hv : iblk m c 4 t (ix2 h 0) = V m c main_v3 (ix2 h 0) := by
    blk_simp [iblk]
    congr 1
    blk_ext [index4_eq]
  rw [hv, entry_v3]
  pointwise

/-- A point's table block is the table. -/
theorem emb_block (c : Dev nD) (t : Fin cfg0.N) (r : Fin 18) (e : Fin 32) :
    iblk m c 2 t (ix2 r e) = m ((c : Thread nD τ).loc main_arg2) (ix2 r e) := by
  have hv : iblk m c 2 t (ix2 r e) = V m c main_arg2 (ix2 r e) := by
    blk_simp [iblk]
    congr 1
    blk_ext [index2_eq]
  rw [hv, V_main_arg2]

/-- A point's weight block is the weights. -/
theorem weight_block (c : Dev nD) (t : Fin cfg0.N) (r : Fin 43) (h : Fin 128) :
    iblk m c 3 t (ix2 r h) = m ((c : Thread nD τ).loc main_arg3) (ix2 r h) := by
  have hv : iblk m c 3 t (ix2 r h) = V m c main_arg3 (ix2 r h) := by
    blk_simp [iblk]
    congr 1
    blk_ext [index3_eq]
  rw [hv, V_main_arg3]

/-- One element of the result: batch row `s`, agent `a`, feature `h`. -/
def value (X0 : Vec Ideal S16384x8x12 .i32) (X1 : Vec Ideal S16384x8x12x11 .f32) (X2 : Vec Ideal S18x32 .f32)
    (X3 : Vec Ideal S43x128 .f32) (X4 : Vec Ideal S128 .f32) (s : Fin 16384) (a : Fin 8) (h : Fin 128) : EReal :=
  pooled (fun i => logit (fun r e => X2 (ix2 r e)) (fun r => X3 (ix2 r h)) (fun f => X1 (ix4 s a i f)) (X0 (ix3 s a i)))
    (X4 (ix1 h))

/-- After the run the result array holds, at agent, feature and sample, the pooled projection of the arguments. -/
theorem array_eq (c : Dev nD) : (dats m 0 c).arrAt 5 cfg0.N
    = fun j : S8x128x16384.Idx => value (m ((c : Thread nD τ).loc main_arg0)) (m ((c : Thread nD τ).loc main_arg1))
        (m ((c : Thread nD τ).loc main_arg2)) (m ((c : Thread nD τ).loc main_arg3)) (m ((c : Thread nD τ).loc main_arg4))
        (j 2) (j 0) (j 1) := by
  refine (dats m 0 c).arrAt_eq_of_covers 5 _ (by decide +kernel) fun t hf y => ?_
  blk_simp
  rw [after0_5]
  obtain ⟨u, h, l, rfl⟩ : ∃ (u : Fin 1) (h : Fin 128) (l : Fin 4096), y = ix3 u h l := ⟨y 0, y 1, y 2, eq_ix3 y⟩
  obtain rfl : u = 0 := Subsingleton.elim _ _
  have ht := point_lt t
  rw [outsAt0_apply]
  have e2 : (win0_5.blk t).view.emb (ix3 0 h l) 2 = (⟨t.val / 8 * 4096 + l, by omega⟩ : Fin 16384) := by
    refine Fin.ext ?_
    blk_simp [index5_eq]
  have e1 : (win0_5.blk t).view.emb (ix3 0 h l) 1 = (h : Fin 128) := by
    refine Fin.ext ?_
    blk_simp [index5_eq]
  have e0 : (win0_5.blk t).view.emb (ix3 0 h l) 0 = (⟨t.val % 8, by omega⟩ : Fin 8) := by
    refine Fin.ext ?_
    blk_simp [index5_eq]
    exact Nat.add_zero _
  rw [e0, e1, e2]
  have ea : (⟨agent t, agent_lt t⟩ : Fin 8) = ⟨t.val % 8, by omega⟩ := Fin.ext (agent_eq t)
  unfold value
  rw [ea]
  simp only [types_block, feat_block, emb_block, weight_block, bias_block]

/-- After the whole program the result is the result array with its axes put in order. -/
theorem result_read (c : Dev nD) :
    Pipeline.afterTail₀ cfgs (dats m) 0 (V0 m) [hostOps1] c main_v5
      = transpose S16384x8x128 [2, 0, 1] ((dats m 0 c).arrAt 5 cfg0.N : FVec Ideal S8x128x16384 .f32)
          transposes_S8x128x16384_S16384x8x128_2_0_1 := by
  unfold Pipeline.afterTail₀
  simp only [hostOps1, List.flatten_cons, List.flatten_nil, List.append_nil]
  after_results
  exact congrArg (fun A => transpose S16384x8x128 [2, 0, 1] (A : FVec Ideal S8x128x16384 .f32) transposes_S8x128x16384_S16384x8x128_2_0_1)
    (Pipeline.withArrays_arr (cfgs 0).spec (by decide) c _ _ 5)

end Cert.KernelIdeal.Chunk
end
-- ==== Proof.Reference.lean ====
module

public import proofs.«01_k».proof.Proof.Spec
public import proofs.«01_k».proof.Proof.Gen.ReferenceIdeal
public import proofs.«01_k».proof.Proof.Gen.ReferenceIdeal.Run
public import proofs.«01_k».proof.Proof.Gen.ReferenceIdeal.Read
public import Idealize.ShloMosaic.Lib.Pointwise
public import Idealize.ShloMosaic.Lib.StableHlo.Predicate

@[expose] public section

set_option maxRecDepth 16384
noncomputable section

/-! What the reference computes, element by element, for types that are rows of the table. -/

namespace Cert.ReferenceIdeal.Rows

open Idealize.ShloMosaic Idealize.ShloMosaic.TcCoe Idealize.ShloMosaic.Tactic
open Cert.ReferenceIdeal Cert.ReferenceIdeal.Gen Cert.ReferenceIdeal.Read Cert.Fused
open scoped BigOperators

variable (X0 : IVec S16384x8x12 32) (X1 : FVec Ideal S16384x8x12x11 .f32) (X2 : FVec Ideal S18x32 .f32)
  (X3 : FVec Ideal S43x128 .f32) (X4 : FVec Ideal S128 .f32)

/-- Where the row number at a place is that of a row of the table, the gather reads that row. -/
theorem gather_apply (idx : IVec S131072x12x1 32) (n : Fin 131072) (i : Fin 12) (e : Fin 32) (t : Fin 18)
    (ht : idx (ix3 n i 0) = BitVec.ofNat 32 t) :
    Host.gather gather_S18x32_S131072x12x1_S131072x12x32_2_0_n_n_0_2_132 X2 idx (ix3 n i e) = X2 (ix2 t e) := by
  unfold Host.gather
  refine congrArg X2 (funext fun a => Fin.ext ?_)
  match a with
  | ⟨0, _⟩ =>
    show GatherDims.start _ (ix3 n i e) idx 0 + GatherDims.batchCoord _ (ix3 n i e) 0 + GatherDims.offCoord _ (ix3 n i e) 0 = (t : Nat)
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S18x32_S131072x12x1_S131072x12x32_2_0_n_n_0_2_132.startIndexMap from List.mem_singleton.mpr rfl)]
    have hsi : gather_S18x32_S131072x12x1_S131072x12x32_2_0_n_n_0_2_132.siIdx (ix3 n i e)
        ⟨List.idxOf (0 : Fin 2) gather_S18x32_S131072x12x1_S131072x12x32_2_0_n_n_0_2_132.startIndexMap,
          List.idxOf_lt_length_iff.2 (List.mem_singleton.mpr rfl)⟩ = ix3 n i 0 := by
      funext b; refine Fin.ext ?_
      match b with
      | ⟨0, _⟩ => rfl
      | ⟨1, _⟩ => rfl
      | ⟨2, _⟩ => rfl
    have htl := t.isLt
    rw [hsi, ht, StableHlo.Predicate.toInt_ofNat_small _ (by omega)]
    show min ((t : Nat) : Int).toNat (18 - 1) + 0 + 0 = (t : Nat)
    omega
  | ⟨1, _⟩ =>
    show GatherDims.start _ (ix3 n i e) idx 1 + GatherDims.batchCoord _ (ix3 n i e) 1 + GatherDims.offCoord _ (ix3 n i e) 1 = (e : Nat)
    rw [GatherDims.batchCoord_eq_zero _ _ _ List.not_mem_nil]
    unfold GatherDims.start
    rw [dif_neg (by decide)]
    simp only [Nat.zero_add]
    rfl

/-- The wrapped type of an item whose type is a row of the table is the type. -/
theorem wrapped_apply (n : Fin 131072) (i : Fin 12) (t : Fin 18)
    (ht : X0 (ix3 ⟨n / 8, by omega⟩ ⟨n % 8, by omega⟩ i) = BitVec.ofNat 32 t) :
    val_main_call0_v5 (F := Ideal) X0 (ix3 n i 0) = BitVec.ofNat 32 t := by
  pointwise [val_main_call0_v5, val_main_call0_v4, val_main_call0_v3, val_main_call0_v2, val_main_call0_v1,
    val_main_call0_v0, val_main_v0, val_main_call0_c, val_main_call0_c_0]
  rw [ht]
  clear ht
  revert t
  decide +kernel

/-- The reference's test that the type is a row of the table holds at such an item. -/
theorem inside_apply (n : Fin 131072) (i : Fin 12) (t : Fin 18)
    (ht : X0 (ix3 ⟨n / 8, by omega⟩ ⟨n % 8, by omega⟩ i) = BitVec.ofNat 32 t) :
    val_main_call0_v12 (F := Ideal) X0 (ix2 n i) = 1#1 := by
  have hw := wrapped_apply X0 n i t ht
  pointwise [val_main_call0_v12, val_main_call0_v11, val_main_call0_v10, val_main_call0_v9, val_main_call0_v8,
    val_main_call0_v7, val_main_call0_v6, val_main_call0_c_1, val_main_call0_c_2, val_main_call0_c_3]
  rw [Finset.univ_unique, Finset.fold_singleton, show (default : Fin 1) = 0 from rfl, hw]
  clear hw ht
  revert t
  decide +kernel

/-- The row taken for an item is the row of the table its type numbers. -/
theorem taken_apply (s : Fin 16384) (a : Fin 8) (i : Fin 12) (e : Fin 32) (t : Fin 18) (ht : X0 (ix3 s a i) = BitVec.ofNat 32 t) :
    val_main_v2 (F := Ideal) X0 X2 (ix4 s a i e) = X2 (ix2 t e) := by
  have hn : (s : Nat) * 8 + a < 131072 := by omega
  have hs : (⟨((s : Nat) * 8 + a) / 8, by omega⟩ : Fin 16384) = s := Fin.ext (by show ((s : Nat) * 8 + a) / 8 = s; omega)
  have ha : (⟨((s : Nat) * 8 + a) % 8, by omega⟩ : Fin 8) = a := Fin.ext (by show ((s : Nat) * 8 + a) % 8 = a; omega)
  have ht' : X0 (ix3 ⟨(⟨(s : Nat) * 8 + a, hn⟩ : Fin 131072) / 8, by omega⟩ ⟨(⟨(s : Nat) * 8 + a, hn⟩ : Fin 131072) % 8, by omega⟩ i)
      = BitVec.ofNat 32 t := by
    show X0 (ix3 ⟨((s : Nat) * 8 + a) / 8, _⟩ ⟨((s : Nat) * 8 + a) % 8, _⟩ i) = _
    rw [hs, ha, ht]
  pointwise [val_main_v2, val_main_v1, val_main_call0_v14]
  rw [inside_apply X0 _ i t ht']
  exact gather_apply X2 _ _ i e t (wrapped_apply X0 _ i t ht')

/-- One item's projection plus the bias, cut at zero: its row of the table and its features side by side against the
    weights. -/
theorem item_apply (s : Fin 16384) (a : Fin 8) (i : Fin 12) (h : Fin 128) (t : Fin 18) (ht : X0 (ix3 s a i) = BitVec.ofNat 32 t) :
    val_main_v8 (F := Ideal) X0 X1 X2 X3 X4 (ix4 s a i h)
      = max (logit (fun r e => X2 (ix2 r e)) (fun r => X3 (ix2 r h)) (fun f => X1 (ix4 s a i f)) (X0 (ix3 s a i)) + X4 (ix1 h)) 0 := by
  have hrow := fun e => taken_apply X0 X2 s a i e t ht
  pointwise [val_main_v8, val_main_v7, val_main_v6, val_main_v5, val_main_v4, val_main_v3, val_main_call1_v0, val_main_call1_cst]
  rw [ht, logit_eq]
  simp only [hrow]

/-- The reference's result: the maximum over the items of the projection plus the bias, cut at zero. -/
theorem result_apply (hX : ∀ j, ∃ t : Fin 18, X0 j = BitVec.ofNat 32 t) (s : Fin 16384) (a : Fin 8) (h : Fin 128) :
    val_main_v9 (F := Ideal) X0 X1 X2 X3 X4 (ix3 s a h)
      = pooled (fun i => logit (fun r e => X2 (ix2 r e)) (fun r => X3 (ix2 r h)) (fun f => X1 (ix4 s a i f)) (X0 (ix3 s a i)))
          (X4 (ix1 h)) := by
  have hitem := fun i => let ⟨t, ht⟩ := hX (ix3 s a i); item_apply X0 X1 X2 X3 X4 s a i h t ht
  pointwise [val_main_v9, val_main_cst]
  simp only [hitem]
  unfold pooled
  rw [show Ideal.ofBits .f32 4286578688#32 = (⊥ : EReal) by
    simp [Ideal.ofBits, Ideal.ieee]]
  rfl

end Cert.ReferenceIdeal.Rows
end
-- ==== Proof.Result.lean ====
module

public import proofs.«01_k».proof.Defs
public import proofs.«01_k».proof.Proof.Array
public import proofs.«01_k».proof.Proof.Reference

@[expose] public section

set_option maxRecDepth 16384
noncomputable section

/-! The equation: the kernel's result array, transposed, is the reference's result. -/

namespace Cert.Proof

open Idealize.ShloMosaic Idealize.ShloMosaic.TcCoe Idealize.ShloMosaic.Tactic Idealize.SL.Sem

/-- The precondition's shape relation. -/
theorem facts_pre : Cert.Pre_types_in_table.Facts where
  bcast_S_S16384x8x12 := by decide

/-- A word that lies in `0 … 17` as a signed integer numbers a row of the table. -/
theorem row_of_range (x : BitVec 32) (h : IntOp.andi (IntOp.cmpi .sge x 0#32) (IntOp.cmpi .slt x 18#32) = 1#1) :
    ∃ t : Fin 18, x = BitVec.ofNat 32 t := by
  have h' : BitVec.ofBool ((0#32).sle x) &&& BitVec.ofBool (x.slt 18#32) = 1#1 := h
  have hb : (0#32).sle x = true ∧ x.slt 18#32 = true := by
    revert h'
    cases (0#32).sle x <;> cases x.slt 18#32 <;> decide
  have h0 : (0 : Int) ≤ x.toInt := by simpa [BitVec.sle] using hb.1
  have h1 : x.toInt < 18 := by simpa [BitVec.slt] using hb.2
  have hn : x.toNat < 18 := by
    rw [BitVec.toInt_eq_toNat_cond] at h0 h1
    have := x.isLt
    split at h0 <;> omega
  exact ⟨⟨x.toNat, hn⟩, (BitVec.ofNat_toNat 32 x).symm.trans (by simp)⟩

/-- Under the precondition every item's type numbers a row of the table. -/
theorem rows_of_pre (X0 : IVec Cert.Pre_types_in_table.S16384x8x12 32) (X1 : FVec Ideal Cert.Pre_types_in_table.S16384x8x12x11 .f32)
    (X2 : FVec Ideal Cert.Pre_types_in_table.S18x32 .f32) (X3 : FVec Ideal Cert.Pre_types_in_table.S43x128 .f32)
    (X4 : FVec Ideal Cert.Pre_types_in_table.S128 .f32)
    (h : (letI := facts_pre; Cert.Pre_types_in_table.fn X0 X1 X2 X3 X4) = fun _ => 1#1) (j : Cert.Pre_types_in_table.S16384x8x12.Idx) :
    ∃ t : Fin 18, X0 j = BitVec.ofNat 32 t :=
  row_of_range (X0 j) (congrFun h j)

/-- The kernel's result array with its axes put in the order of the reference's is the reference's result, for types
    that number rows of the table. -/
theorem result_eq (X0 : IVec Cert.ReferenceIdeal.S16384x8x12 32) (X1 : FVec Ideal Cert.ReferenceIdeal.S16384x8x12x11 .f32)
    (X2 : FVec Ideal Cert.ReferenceIdeal.S18x32 .f32) (X3 : FVec Ideal Cert.ReferenceIdeal.S43x128 .f32)
    (X4 : FVec Ideal Cert.ReferenceIdeal.S128 .f32) (hX : ∀ j, ∃ t : Fin 18, X0 j = BitVec.ofNat 32 t)
    (A : FVec Ideal Cert.KernelIdeal.S8x128x16384 .f32)
    (hA : A = fun j => Cert.KernelIdeal.Chunk.value X0 X1 X2 X3 X4 (j 2) (j 0) (j 1)) :
    Cert.ReferenceIdeal.Read.val_main_v9 (F := Ideal) X0 X1 X2 X3 X4
      = transpose Cert.KernelIdeal.S16384x8x128 [2, 0, 1] A Cert.KernelIdeal.Gen.transposes_S8x128x16384_S16384x8x128_2_0_1 := by
  subst hA
  funext j
  obtain ⟨s, a, h, rfl⟩ : ∃ (s : Fin 16384) (a : Fin 8) (h : Fin 128), j = ix3 s a h := ⟨j 0, j 1, j 2, eq_ix3 j⟩
  rw [Cert.ReferenceIdeal.Rows.result_apply X0 X1 X2 X3 X4 hX s a h]
  pointwise
  rfl

end Cert.Proof
end
end
-- ==== Proof.lean ====
/- The proof of the claims: the frames, the ideal kernel, and the ideal kernel's result against the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Result
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The kernel's frame. -/
theorem frame_p : Cert.quiescent_Kernel := fun m ρ _ => Cert.Kernel.Gen.frame m ρ

/-- The idealized kernel's frame. -/
theorem frame_pi : Cert.quiescent_KernelIdeal := fun m ρ _ => Cert.KernelIdeal.Gen.frame m ρ

/-- The reference's frame: its run read at the arguments; it has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel's run: the result ends at the result array with its axes put in order, the arguments as they
    were. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v5)
            = transpose Cert.KernelIdeal.S16384x8x128 [2, 0, 1]
                ((Cert.KernelIdeal.Gen.dats m 0 c).arrAt 5 Cert.KernelIdeal.cfg0.N : FVec Ideal Cert.KernelIdeal.S8x128x16384 .f32)
                Cert.KernelIdeal.Gen.transposes_S8x128x16384_S16384x8x128_2_0_1
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono
    (fun _ h c => ⟨((h.2 c).2 Cert.KernelIdeal.main_v5 (by decide)).trans (Cert.KernelIdeal.Chunk.result_read m c), h.1 c⟩)
    (θ_run_and (Cert.KernelIdeal.Gen.unchanged m g) (Cert.KernelIdeal.Gen.run_main m g))

/-- The idealized kernel's result is the reference's, for types that number rows of the table. -/
theorem algebraic : letI := facts_pre; Cert.algebraic_KernelIdeal_ReferenceIdeal_pre_types_in_table := by
  pair_intro
  · exact kernel_run m g
  · refine (θ_run Cert.ReferenceIdeal.defs _ _).mono (fun r h c => ⟨(h c).1.trans ?_, (h c).2⟩)
      (Cert.ReferenceIdeal.Value.run (F := Ideal) m' g')
    refine (Cert.ReferenceIdeal.Read.val_main_v9_eq (F := Ideal) _ _ _ _ _).trans ?_
    rw [(hagree c).1, (hagree c).2.1, (hagree c).2.2.1, (hagree c).2.2.2.1, (hagree c).2.2.2.2]
    exact result_eq _ _ _ _ _ (rows_of_pre _ _ _ _ _ (hpre c)) _ (Cert.KernelIdeal.Chunk.array_eq m c)

/-- Every claim. -/
theorem claim : Cert.Claim :=
  ⟨Cert.Kernel.Gen.facts, Cert.KernelIdeal.Gen.facts, Cert.ReferenceIdeal.Gen.facts, facts_pre, frame_p, frame_pi,
    fun m ρ _ => frame_pi m ρ trivial, frame_ri, fun m ρ _ => frame_ri m ρ trivial, trivial, algebraic⟩

end Cert.Proof

end
